-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_hippo_structure [hPre_hippo_structure : Cert.Pre_hippo_structure.Facts] (m : (ℓ : Loc Cert.KernelIdeal.nD Cert.KernelIdeal.τ Cert.KernelIdeal.sig) → Buf (Elt Ideal) ℓ) : Prop :=
  ∀ c : Dev Cert.KernelIdeal.nD,
    (Cert.Pre_hippo_structure.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_hippo_structure [hPre_hippo_structure : Cert.Pre_hippo_structure.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_hippo_structure.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_hippo_structure [hKernelIdeal : Cert.KernelIdeal.Facts] [hPre_hippo_structure : Cert.Pre_hippo_structure.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_hippo_structure m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_hippo_structure [hReferenceIdeal : Cert.ReferenceIdeal.Facts] [hPre_hippo_structure : Cert.Pre_hippo_structure.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_hippo_structure m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_hippo_structure [hKernelIdeal : Cert.KernelIdeal.Facts] [hReferenceIdeal : Cert.ReferenceIdeal.Facts] [hPre_hippo_structure : Cert.Pre_hippo_structure.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_hippo_structure m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_hippo_structure : Cert.Pre_hippo_structure.Facts),
    quiescent_Kernel (hKernel := hKernel)
    ∧ quiescent_KernelIdeal (hKernelIdeal := hKernelIdeal)
    ∧ quiescent_KernelIdeal_pre_hippo_structure (hKernelIdeal := hKernelIdeal) (hPre_hippo_structure := hPre_hippo_structure)
    ∧ quiescent_ReferenceIdeal (hReferenceIdeal := hReferenceIdeal)
    ∧ quiescent_ReferenceIdeal_pre_hippo_structure (hReferenceIdeal := hReferenceIdeal) (hPre_hippo_structure := hPre_hippo_structure)
    ∧ preserves_Kernel_KernelIdeal
    ∧ algebraic_KernelIdeal_ReferenceIdeal_pre_hippo_structure (hKernelIdeal := hKernelIdeal) (hReferenceIdeal := hReferenceIdeal) (hPre_hippo_structure := hPre_hippo_structure)
-- ==== Pre_hippo_structure.lean ====
abbrev S1024x256 : Shape := ⟨2, ![1024, 256]⟩
abbrev S1024x256x256 : Shape := ⟨3, ![1024, 256, 256]⟩
abbrev S_ : Shape := ⟨0, ![]⟩
abbrev S1024x1x1 : Shape := ⟨3, ![1024, 1, 1]⟩
abbrev S1024x256x1 : Shape := ⟨3, ![1024, 256, 1]⟩
abbrev S1024x1x256 : Shape := ⟨3, ![1024, 1, 256]⟩

class Facts : Prop where
  bcast_S_S1024x256x256 : S_.BroadcastsInDim S1024x256x256 (![] : Fin 0 → Fin S1024x256x256.rank)
  slices_S1024x256x256_S1024x1x1_0_135_128 : S1024x256x256.Slices ![0, 135, 128] S1024x1x1
  bcast_S1024x1x1_S1024x256x256_0_1_2 : S1024x1x1.BroadcastsInDim S1024x256x256 (![0, 1, 2] : Fin 3 → Fin S1024x256x256.rank)
  slices_S1024x256x256_S1024x256x1_0_0_128 : S1024x256x256.Slices ![0, 0, 128] S1024x256x1
  bcast_S1024x256x1_S1024x256x256_0_1_2 : S1024x256x1.BroadcastsInDim S1024x256x256 (![0, 1, 2] : Fin 3 → Fin S1024x256x256.rank)
  slices_S1024x256x256_S1024x1x256_0_135_0 : S1024x256x256.Slices ![0, 135, 0] S1024x1x256
  bcast_S1024x1x256_S1024x256x256_0_1_2 : S1024x1x256.BroadcastsInDim S1024x256x256 (![0, 1, 2] : Fin 3 → Fin S1024x256x256.rank)

variable [Facts]

def fn_part2 {F : FTy → Type} [FloatOps F] (main_arg1 : FVec F S1024x256x256 .f32) (main_v11 : IVec S1024x256x256 1) (main_v27 : IVec S1024x256x256 1) (main_v35 : IVec S1024x256x256 1) (main_v36 : IVec S1024x256x256 1) (main_v37 : FVec F S1024x256x256 .f32) : IVec S1024x256x256 1 :=
  let main_v38 : IVec S1024x256x256 1 := cmpf .oeq main_arg1 main_v37
  let main_v39 : IVec S1024x256x256 1 := ori main_v36 main_v38
  let main_v40 : IVec S1024x256x256 1 := noti main_v11
  let main_v41 : IVec S1024x256x256 1 := ori main_v40 main_v27
  let main_v42 : IVec S1024x256x256 1 := ori main_v41 main_v35
  let main_v43 : IVec S1024x256x256 1 := andi main_v39 main_v42
  main_v43

def fn_part1 {F : FTy → Type} [FloatOps F] (main_arg1 : FVec F S1024x256x256 .f32) (main_v6 : IVec S1024x256x256 1) (main_v11 : IVec S1024x256x256 1) (main_v13 : FVec F S1024x256x256 .f32) (main_v15 : FVec F S1024x256x256 .f32) (main_v17 : FVec F S1024x256x256 .f32) (main_v18 : FVec F S1024x256x256 .f32) : IVec S1024x256x256 1 :=
  let main_v19 : IVec S1024x256x256 1 := cmpf .une main_v13 main_v18
  let main_v20 : FVec F S1024x256x256 .f32 := Host.absf main_v13
  let main_cst_3 : FVec F S_ .f32 := constant S_ .f32 0x7F800000#32
  let main_v21 : FVec F S1024x256x256 .f32 := broadcastInDim S1024x256x256 ![] bcast_S_S1024x256x256 main_cst_3
  let main_v22 : IVec S1024x256x256 1 := cmpf .olt main_v20 main_v21
  let main_v23 : IVec S1024x256x256 1 := andi main_v19 main_v22
  let main_v24 : FVec F S1024x256x256 .f32 := mulf main_arg1 main_v13
  let main_v25 : FVec F S1024x256x256 .f32 := mulf main_v15 main_v17
  let main_v26 : IVec S1024x256x256 1 := cmpf .oeq main_v24 main_v25
  let main_v27 : IVec S1024x256x256 1 := andi main_v23 main_v26
  let main_cst_4 : FVec F S_ .f32 := constant S_ .f32 0x00000000#32
  let main_v28 : FVec F S1024x256x256 .f32 := broadcastInDim S1024x256x256 ![] bcast_S_S1024x256x256 main_cst_4
  let main_v29 : IVec S1024x256x256 1 := cmpf .oeq main_v13 main_v28
  let main_cst_5 : FVec F S_ .f32 := constant S_ .f32 0x00000000#32
  let main_v30 : FVec F S1024x256x256 .f32 := broadcastInDim S1024x256x256 ![] bcast_S_S1024x256x256 main_cst_5
  let main_v31 : IVec S1024x256x256 1 := cmpf .oeq main_v15 main_v30
  let main_v32 : IVec S1024x256x256 1 := andi main_v29 main_v31
  let main_cst_6 : FVec F S_ .f32 := constant S_ .f32 0x00000000#32
  let main_v33 : FVec F S1024x256x256 .f32 := broadcastInDim S1024x256x256 ![] bcast_S_S1024x256x256 main_cst_6
  let main_v34 : IVec S1024x256x256 1 := cmpf .oeq main_arg1 main_v33
  let main_v35 : IVec S1024x256x256 1 := andi main_v32 main_v34
  let main_v36 : IVec S1024x256x256 1 := noti main_v6
  let main_cst_7 : FVec F S_ .f32 := constant S_ .f32 0x00000000#32
  let main_v37 : FVec F S1024x256x256 .f32 := broadcastInDim S1024x256x256 ![] bcast_S_S1024x256x256 main_cst_7
  fn_part2 (F := F) main_arg1 main_v11 main_v27 main_v35 main_v36 main_v37

def fn {F : FTy → Type} [FloatOps F] (main_arg0 : FVec F S1024x256 .f32) (main_arg1 : FVec F S1024x256x256 .f32) (main_arg2 : FVec F S1024x256 .f32) : IVec S1024x256x256 1 :=
  let main_v0 : IVec S1024x256x256 32 := iotaInDim S1024x256x256 32 1
  let main_v1 : IVec S1024x256x256 32 := iotaInDim S1024x256x256 32 2
  let main_c : IVec S_ 32 := constantI S_ 32 128#32
  let main_v2 : IVec S1024x256x256 32 := broadcastInDim S1024x256x256 ![] bcast_S_S1024x256x256 main_c
  let main_v3 : IVec S1024x256x256 1 := cmpi .slt main_v0 main_v2
  let main_c_0 : IVec S_ 32 := constantI S_ 32 128#32
  let main_v4 : IVec S1024x256x256 32 := broadcastInDim S1024x256x256 ![] bcast_S_S1024x256x256 main_c_0
  let main_v5 : IVec S1024x256x256 1 := cmpi .sge main_v1 main_v4
  let main_v6 : IVec S1024x256x256 1 := andi main_v3 main_v5
  let main_c_1 : IVec S_ 32 := constantI S_ 32 136#32
  let main_v7 : IVec S1024x256x256 32 := broadcastInDim S1024x256x256 ![] bcast_S_S1024x256x256 main_c_1
  let main_v8 : IVec S1024x256x256 1 := cmpi .sge main_v0 main_v7
  let main_c_2 : IVec S_ 32 := constantI S_ 32 128#32
  let main_v9 : IVec S1024x256x256 32 := broadcastInDim S1024x256x256 ![] bcast_S_S1024x256x256 main_c_2
  let main_v10 : IVec S1024x256x256 1 := cmpi .slt main_v1 main_v9
  let main_v11 : IVec S1024x256x256 1 := andi main_v8 main_v10
  let main_v12 : FVec F S1024x1x1 .f32 := (extractStridedSlice S1024x1x1 ![0, 135, 128] · slices_S1024x256x256_S1024x1x1_0_135_128) main_arg1
  let main_v13 : FVec F S1024x256x256 .f32 := broadcastInDim S1024x256x256 ![0, 1, 2] bcast_S1024x1x1_S1024x256x256_0_1_2 main_v12
  let main_v14 : FVec F S1024x256x1 .f32 := (extractStridedSlice S1024x256x1 ![0, 0, 128] · slices_S1024x256x256_S1024x256x1_0_0_128) main_arg1
  let main_v15 : FVec F S1024x256x256 .f32 := broadcastInDim S1024x256x256 ![0, 1, 2] bcast_S1024x256x1_S1024x256x256_0_1_2 main_v14
  let main_v16 : FVec F S1024x1x256 .f32 := (extractStridedSlice S1024x1x256 ![0, 135, 0] · slices_S1024x256x256_S1024x1x256_0_135_0) main_arg1
  let main_v17 : FVec F S1024x256x256 .f32 := broadcastInDim S1024x256x256 ![0, 1, 2] bcast_S1024x1x256_S1024x256x256_0_1_2 main_v16
  let main_cst : FVec F S_ .f32 := constant S_ .f32 0x00000000#32
  let main_v18 : FVec F S1024x256x256 .f32 := broadcastInDim S1024x256x256 ![] bcast_S_S1024x256x256 main_cst
  fn_part1 (F := F) main_arg1 main_v6 main_v11 main_v13 main_v15 main_v17 main_v18
-- ==== Kernel.lean ====
abbrev S1024x256 : Shape := ⟨2, ![1024, 256]⟩
abbrev S1024x256x256 : Shape := ⟨3, ![1024, 256, 256]⟩
abbrev S64x136x128 : Shape := ⟨3, ![64, 136, 128]⟩
abbrev S64x128x128 : Shape := ⟨3, ![64, 128, 128]⟩
abbrev S64x256 : Shape := ⟨2, ![64, 256]⟩
abbrev S64x256x256 : Shape := ⟨3, ![64, 256, 256]⟩
abbrev S256x256 : Shape := ⟨2, ![256, 256]⟩
abbrev S128x128 : Shape := ⟨2, ![128, 128]⟩
abbrev S256x64 : Shape := ⟨2, ![256, 64]⟩
abbrev S256x1 : Shape := ⟨2, ![256, 1]⟩
abbrev S1x256 : Shape := ⟨2, ![1, 256]⟩
abbrev S1x128x128 : Shape := ⟨3, ![1, 128, 128]⟩
abbrev S1x8x128 : Shape := ⟨3, ![1, 8, 128]⟩
abbrev S8x128 : Shape := ⟨2, ![8, 128]⟩
abbrev S1x128 : Shape := ⟨2, ![1, 128]⟩
abbrev S1x1 : Shape := ⟨2, ![1, 1]⟩
abbrev S128x1 : Shape := ⟨2, ![128, 1]⟩
abbrev S120x128 : Shape := ⟨2, ![120, 128]⟩
abbrev S128x256 : Shape := ⟨2, ![128, 256]⟩
abbrev S1x256x256 : Shape := ⟨3, ![1, 256, 256]⟩

abbrev nBuf : Space → Nat
  | .hbm => 4
  | .vmem => 11
  | .smem => 0
  | _ => 0

abbrev bufTy : (tb : Table) → Fin (tcTables nBuf tb) → BufTy
  | .hbm, ⟨0, _⟩ => ⟨S1024x256, .f32⟩
  | .hbm, ⟨1, _⟩ => ⟨S1024x256x256, .f32⟩
  | .hbm, ⟨2, _⟩ => ⟨S1024x256, .f32⟩
  | .hbm, ⟨3, _⟩ => ⟨S1024x256x256, .f32⟩
  | .local _ .vmem, ⟨0, _⟩ => ⟨S64x136x128, .f32⟩
  | .local _ .vmem, ⟨1, _⟩ => ⟨S64x136x128, .f32⟩
  | .local _ .vmem, ⟨2, _⟩ => ⟨S64x128x128, .f32⟩
  | .local _ .vmem, ⟨3, _⟩ => ⟨S64x128x128, .f32⟩
  | .local _ .vmem, ⟨4, _⟩ => ⟨S64x256, .f32⟩
  | .local _ .vmem, ⟨5, _⟩ => ⟨S64x256, .f32⟩
  | .local _ .vmem, ⟨6, _⟩ => ⟨S64x256, .f32⟩
  | .local _ .vmem, ⟨7, _⟩ => ⟨S64x256, .f32⟩
  | .local _ .vmem, ⟨8, _⟩ => ⟨S64x256x256, .f32⟩
  | .local _ .vmem, ⟨9, _⟩ => ⟨S64x256x256, .f32⟩
  | .local _ .vmem, ⟨10, _⟩ => ⟨S256x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let c1_i32_0 : BitVec 32 := 1#32
  let c0_i32 : BitVec 32 := 0#32
  ![arg0.toNat, c1_i32.toNat, c1_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x136x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1024x256 : Shape := ⟨2, ![1024, 256]⟩
abbrev S1024x256x256 : Shape := ⟨3, ![1024, 256, 256]⟩
abbrev S1024x256x1 : Shape := ⟨3, ![1024, 256, 1]⟩
abbrev S1024x1x256 : Shape := ⟨3, ![1024, 1, 256]⟩
abbrev S_ : Shape := ⟨0, ![]⟩
abbrev S256x256 : Shape := ⟨2, ![256, 256]⟩
abbrev S1x256x256 : Shape := ⟨3, ![1, 256, 256]⟩

abbrev nBuf : Space → Nat
  | .hbm => 37
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256x256, .f32⟩
  | .hbm, ⟨2, _⟩ => ⟨S1024x256, .f32⟩
  | .hbm, ⟨3, _⟩ => ⟨S1024x256x1, .f32⟩
  | .hbm, ⟨4, _⟩ => ⟨S1024x1x256, .f32⟩
  | .hbm, ⟨5, _⟩ => ⟨S1024x256x256, .f32⟩
  | .hbm, ⟨6, _⟩ => ⟨S1024x256x256, .f32⟩
  | .hbm, ⟨7, _⟩ => ⟨S1024x256x256, .f32⟩
  | .hbm, ⟨8, _⟩ => ⟨S_, .f32⟩
  | .hbm, ⟨9, _⟩ => ⟨S256x256, .f32⟩
  | .hbm, ⟨10, _⟩ => ⟨S_, .f32⟩
  | .hbm, ⟨11, _⟩ => ⟨S1024x256x256, .f32⟩
  | .hbm, ⟨12, _⟩ => ⟨S_, .i32⟩
  | .hbm, ⟨13, _⟩ => ⟨S1024x256x256, .f32⟩
  | .hbm, ⟨14, _⟩ => ⟨S1024x256x256, .f32⟩
  | .hbm, ⟨15, _⟩ => ⟨S_, .i32⟩
  | .hbm, ⟨16, _⟩ => ⟨S256x256, .f32⟩
  | .hbm, ⟨17, _⟩ => ⟨S1024x256x256, .f32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S1x256x256, .f32⟩
  | .hbm, ⟨23, _⟩ => ⟨S256x256, .f32⟩
  | .hbm, ⟨24, _⟩ => ⟨S_, .i32⟩
  | .hbm, ⟨25, _⟩ => ⟨S_, .i32⟩
  | .hbm, ⟨26, _⟩ => ⟨S1x256x256, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S256x256, .f32⟩
  | .hbm, ⟨31, _⟩ => ⟨S1x256x256, .f32⟩
  | .hbm, ⟨32, _⟩ => ⟨S_, .i32⟩
  | .hbm, ⟨33, _⟩ => ⟨S_, .i32⟩
  | .hbm, ⟨34, _⟩ => ⟨S1024x256x256, .f32⟩
  | .hbm, ⟨35, _⟩ => ⟨S_, .i32⟩
  | .hbm, ⟨36, _⟩ => ⟨S_, .i32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_c : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev main_while0c_c_5 : Ref sig .tc := ⟨.hbm, 18, rfl⟩
abbrev main_while0c_v8 : Ref sig .tc := ⟨.hbm, 19, rfl⟩
abbrev main_while0b_call0_c : Ref sig .tc := ⟨.hbm, 20, rfl⟩
abbrev main_while0b_call0_c_0 : Ref sig .tc := ⟨.hbm, 21, rfl⟩
abbrev main_while0b_call0_v0 : Ref sig .tc := ⟨.hbm, 22, rfl⟩
abbrev main_while0b_v8 : Ref sig .tc := ⟨.hbm, 23, rfl⟩
abbrev main_while0b_call1_c : Ref sig .tc := ⟨.hbm, 24, rfl⟩
abbrev main_while0b_call1_c_0 : Ref sig .tc := ⟨.hbm, 25, rfl⟩
abbrev main_while0b_call1_v0 : Ref sig .tc := ⟨.hbm, 26, rfl⟩
abbrev main_while0b_v9 : Ref sig .tc := ⟨.hbm, 27, rfl⟩
abbrev main_while0b_v10 : Ref sig .tc := ⟨.hbm, 28, rfl⟩
abbrev main_while0b_v11 : Ref sig .tc := ⟨.hbm, 29, rfl⟩
abbrev main_while0b_v12 : Ref sig .tc := ⟨.hbm, 30, rfl⟩
abbrev main_while0b_call2_v0 : Ref sig .tc := ⟨.hbm, 31, rfl⟩
abbrev main_while0b_call2_c : Ref sig .tc := ⟨.hbm, 32, rfl⟩
abbrev main_while0b_call2_c_0 : Ref sig .tc := ⟨.hbm, 33, rfl⟩
abbrev main_while0b_v13 : Ref sig .tc := ⟨.hbm, 34, rfl⟩
abbrev main_while0b_c_5 : Ref sig .tc := ⟨.hbm, 35, rfl⟩
abbrev main_while0b_v14 : Ref sig .tc := ⟨.hbm, 36, rfl⟩

abbrev nD : Nat := 1
abbrev τ : Topo := Topo.v7x

variable {F : FTy → Type} [FloatOps F]

abbrev main_while0_count : Scf.Loop 32 := ⟨0#32, 1024#32, 1#32⟩
-- ==== Proof.KernelBody.lean ====
/- The kernel's body as sixty-four applications of ONE step. The printed body is unrolled: sixty-four times it rebuilds a
   transition matrix from the blocks it loaded, multiplies the carried state by it, adds the input's contribution and stores the
   new state as one row of the output block. Here that step is written once, over a row number, and the lists of stores the body's run
   leaves are shown to be its iterates. -/
module

public import proofs.«01_k».proof.Proof.Gen.KernelIdeal.Value

@[expose] public section

set_option synthInstance.maxSize 4096

noncomputable section

namespace Cert.Proof.Body

open Idealize.ShloMosaic Idealize.SL.Sem Cert.KernelIdeal Cert.KernelIdeal.Gen

variable {F : FTy → Type} [FloatOps F]

/-- The transition matrix the kernel multiplies by, rebuilt from the parts it loads: the upper left quarter, a quarter of zeros
    to its right, eight stored rows of the lower left quarter continued by a product of a column and a row, and the lower right
    quarter. -/
def rebuilt (a11 : Vec F S1x128x128 .f32) (slab : Vec F S1x8x128 .f32) (a22 : Vec F S1x128x128 .f32) : FVec F S256x256 .f32 :=
  have top : FVec F S128x128 .f32 := shapeCast S128x128 a11 shapeCasts_S1x128x128_S128x128
  have eight : FVec F S8x128 .f32 := shapeCast S8x128 slab shapeCasts_S1x8x128_S8x128
  have low : FVec F S128x128 .f32 := shapeCast S128x128 a22 shapeCasts_S1x128x128_S128x128
  have ratio : FVec F S1x128 .f32 :=
    divf (extractStridedSlice S1x128 ![7, 0] eight slices_S8x128_o7_0_S1x128)
      (broadcastTo S1x128 (extractStridedSlice S1x1 ![7, 0] low slices_S128x128_o7_0_S1x1) broadcasts_S1x1_S1x128)
  have outer : FVec F S128x128 .f32 :=
    mulf (broadcastTo S128x128 (extractStridedSlice S128x1 ![0, 0] low slices_S128x128_o0_0_S128x1) broadcasts_S128x1_S128x128)
      (broadcastTo S128x128 ratio broadcasts_S1x128_S128x128)
  have corner : FVec F S128x128 .f32 :=
    concatenate S128x128 0 [⟨S8x128, eight⟩, ⟨S120x128, extractStridedSlice S120x128 ![8, 0] outer slices_S128x128_o8_0_S120x128⟩]
      concatenates_S8x128_S120x128_S128x128_d0
  concatenate S256x256 0
    [⟨S128x256, concatenate S128x256 1 [⟨S128x128, top⟩, ⟨S128x128, k0_pay4 (F := F)⟩] concatenates_S128x128_S128x128_S128x256_d1⟩,
     ⟨S128x256, concatenate S128x256 1 [⟨S128x128, corner⟩, ⟨S128x128, low⟩] concatenates_S128x128_S128x128_S128x256_d1⟩]
    concatenates_S128x256_S128x256_S256x256_d0

/-- One column of the transposed input block is there to be sliced. -/
theorem column_slices (j : ℕ) (h : j < 64) : S256x64.Slices ![0, j] S256x1 := by
  refine ⟨rfl, fun a => ?_⟩
  fin_cases a
  · exact Nat.le_refl 256
  · exact h

/-- One step: the input's column `j` times the row `b`, plus the carried state times the rebuilt matrix. -/
def advance (inp : Vec F S64x256 .f32) (j : ℕ) (h : j < 64) (b : Vec F S1x256 .f32) (a11 : Vec F S1x128x128 .f32)
    (slab : Vec F S1x8x128 .f32) (a22 : Vec F S1x128x128 .f32) (x : FVec F S256x256 .f32) : FVec F S256x256 .f32 :=
  addf (mulf (broadcastTo S256x256 (extractStridedSlice S256x1 ![0, j] (k0_pay5 inp) (column_slices j h)) broadcasts_S256x1_S256x256)
      (broadcastTo S256x256 b broadcasts_S1x256_S256x256))
    (matmul dot_S256x256_S256x256_S256x256_1_1_0_0_n_n none x (rebuilt a11 slab a22) (constant S256x256 .f32 0x00000000#32))

/-- The state after `n` steps from `x`, step `j` reading its operands off the four families. -/
def iter (inp : Vec F S64x256 .f32) (b : (j : ℕ) → j < 64 → Vec F S1x256 .f32) (a11 : (j : ℕ) → j < 64 → Vec F S1x128x128 .f32)
    (slab : (j : ℕ) → j < 64 → Vec F S1x8x128 .f32) (a22 : (j : ℕ) → j < 64 → Vec F S1x128x128 .f32) (x : FVec F S256x256 .f32) :
    (n : ℕ) → n ≤ 64 → FVec F S256x256 .f32
  | 0, _ => x
  | n + 1, h => advance inp n h (b n h) (a11 n h) (slab n h) (a22 n h) (iter inp b a11 slab a22 x n (Nat.le_of_succ_le h))

/-- Row `j` of the output block lies in it. -/
theorem row_inb (j : ℕ) (h : j < 64) : ∀ a, (![j, 0, 0] : Fin 3 → Nat) a + S1x256x256.size a ≤ S64x256x256.size a := by
  intro a; fin_cases a
  · exact h
  · exact Nat.le_refl 256
  · exact Nat.le_refl 256

/-- The first `n` stores into the output block, last first: row `j` receives the state `X (j + 1)`. -/
def stores (X : (n : ℕ) → n ≤ 64 → FVec F S256x256 .f32) : (n : ℕ) → n ≤ 64 → List (View.Piece (Elt F) S64x256x256 .f32)
  | 0, _ => []
  | n + 1, h => ⟨Rect.unit ![n, 0, 0] S1x256x256.size (row_inb n h),
      shapeCast S1x256x256 (X (n + 1) h) shapeCasts_S256x256_S1x256x256⟩ :: stores X n (Nat.le_of_succ_le h)

/-- Row `j`'s part of the block of `B` lies within the block. -/
theorem inb_b (j : ℕ) (h : j < 64) : ∀ a, (![j, 0] : Fin 2 → Nat) a + S1x256.size a ≤ S64x256.size a := by
  intro a; fin_cases a
  · exact h
  · exact Nat.le_refl 256
/-- Row `j`'s part of the block of the upper left quarter lies within the block. -/
theorem inb_a11 (j : ℕ) (h : j < 64) : ∀ a, (![j, 0, 0] : Fin 3 → Nat) a + S1x128x128.size a ≤ S64x136x128.size a := by
  intro a; fin_cases a
  · exact h
  · exact (by decide : 0 + 128 ≤ 136)
  · exact Nat.le_refl 128
/-- Row `j`'s part of the block of the eight rows below it lies within the block. -/
theorem inb_slab (j : ℕ) (h : j < 64) : ∀ a, (![j, 128, 0] : Fin 3 → Nat) a + S1x8x128.size a ≤ S64x136x128.size a := by
  intro a; fin_cases a
  · exact h
  · exact Nat.le_refl 136
  · exact Nat.le_refl 128
/-- Row `j`'s part of the block of the lower right quarter lies within the block. -/
theorem inb_a22 (j : ℕ) (h : j < 64) : ∀ a, (![j, 0, 0] : Fin 3 → Nat) a + S1x128x128.size a ≤ S64x128x128.size a := by
  intro a; fin_cases a
  · exact h
  · exact Nat.le_refl 128
  · exact Nat.le_refl 128

section
variable (c : Dev nD) (i : grid0.Coords) (arg1 : Memref sig .tc .vmem S64x136x128 .f32) (harg1 : arg1.IsWhole)
  (arg2 : Memref sig .tc .vmem S64x128x128 .f32) (harg2 : arg2.IsWhole) (arg3 : Memref sig .tc .vmem S64x256 .f32) (harg3 : arg3.IsWhole)
  (arg4 : Memref sig .tc .vmem S64x256 .f32) (harg4 : arg4.IsWhole) (arg5 : Memref sig .tc .vmem S64x256x256 .f32) (harg5 : arg5.IsWhole)
  (arg6 : Memref sig .tc .vmem S256x256 .f32) (harg6 : arg6.IsWhole)
  (x0 : Vec F S64x136x128 .f32) (x1 : Vec F S64x128x128 .f32) (x2 : Vec F S64x256 .f32) (x3 : Vec F S64x256 .f32) (xs0 : Vec F S256x256 .f32)

/-- What a run of the body loads, iterated: `iter` at the loads from whole staging buffers holding `x0 … x3`. -/
def states (x : FVec F S256x256 .f32) (n : ℕ) (h : n ≤ 64) : FVec F S256x256 .f32 :=
  iter (View.readAt (Elt F) arg3.view (Rect.unit ![0, 0] S64x256.size inb_S64x256_S64x256_0_0).toLoadRect (harg3.unread x2))
    (fun j h => View.readAt (Elt F) arg4.view (Rect.unit (s := S64x256) ![j, 0] S1x256.size (inb_b j h)).toLoadRect (harg4.unread x3))
    (fun j h => View.readAt (Elt F) arg1.view (Rect.unit (s := S64x136x128) ![j, 0, 0] S1x128x128.size (inb_a11 j h)).toLoadRect (harg1.unread x0))
    (fun j h => View.readAt (Elt F) arg1.view (Rect.unit (s := S64x136x128) ![j, 128, 0] S1x8x128.size (inb_slab j h)).toLoadRect (harg1.unread x0))
    (fun j h => View.readAt (Elt F) arg2.view (Rect.unit (s := S64x128x128) ![j, 0, 0] S1x128x128.size (inb_a22 j h)).toLoadRect (harg2.unread x1))
    x n h

/-- At a later point the stores into the scratch are one: the state after all sixty-four steps. -/
theorem scratch_B (hc0 : ¬cond0_0 i) :
    (kernelRun0_B c i arg1 harg1 arg2 harg2 arg3 harg3 arg4 harg4 arg5 harg5 arg6 harg6 hc0 x0 x1 x2 x3 xs0).2.1
      = [⟨Rect.unit ![0, 0] ![256, 256] inb_S256x256_S256x256_0_0,
          shapeCast S256x256 (states arg1 harg1 arg2 harg2 arg3 harg3 arg4 harg4 x0 x1 x2 x3
            (View.readAt (Elt F) arg6.view (Rect.unit (s := S256x256) ![0, 0] S256x256.size inb_S256x256_S256x256_0_0).toLoadRect (harg6.unread xs0)) 64 (Nat.le_refl 64))
            shapeCasts_S256x256_S256x256⟩] := by
  unfold kernelRun0_B
  rfl
/-- At a later point the stores into the output block are the sixty-four states, row by row. -/
theorem output_B (hc0 : ¬cond0_0 i) :
    (kernelRun0_B c i arg1 harg1 arg2 harg2 arg3 harg3 arg4 harg4 arg5 harg5 arg6 harg6 hc0 x0 x1 x2 x3 xs0).1
      = stores (states arg1 harg1 arg2 harg2 arg3 harg3 arg4 harg4 x0 x1 x2 x3
            (View.readAt (Elt F) arg6.view (Rect.unit (s := S256x256) ![0, 0] S256x256.size inb_S256x256_S256x256_0_0).toLoadRect (harg6.unread xs0)))
          64 (Nat.le_refl 64) := by
  unfold kernelRun0_B
  rfl

/-- At the first point, where the scratch is zeroed first, the stores into the scratch are two: the zeros, then the state after all
    sixty-four steps from the zeros read back. -/
theorem scratch_A (hc0 : cond0_0 i) :
    (kernelRun0_A c i arg1 harg1 arg2 harg2 arg3 harg3 arg4 harg4 arg5 harg5 arg6 harg6 hc0 x0 x1 x2 x3).2.1
      = [⟨Rect.unit ![0, 0] ![256, 256] inb_S256x256_S256x256_0_0,
          shapeCast S256x256 (states arg1 harg1 arg2 harg2 arg3 harg3 arg4 harg4 x0 x1 x2 x3
            (arg6.view.readCov (Val := Elt F) [⟨Rect.unit (s := S256x256) ![0, 0] S256x256.size inb_S256x256_S256x256_0_0, k0_pay3⟩]
              (Rect.unit (s := S256x256) ![0, 0] S256x256.size inb_S256x256_S256x256_0_0).toLoadRect) 64 (Nat.le_refl 64))
            shapeCasts_S256x256_S256x256⟩,
         ⟨Rect.unit ![0, 0] S256x256.size inb_S256x256_S256x256_0_0, k0_pay3⟩] := by
  unfold kernelRun0_A
  rfl
/-- At the first point the stores into the output block are the sixty-four states, row by row, from the zeros. -/
theorem output_A (hc0 : cond0_0 i) :
    (kernelRun0_A c i arg1 harg1 arg2 harg2 arg3 harg3 arg4 harg4 arg5 harg5 arg6 harg6 hc0 x0 x1 x2 x3).1
      = stores (states arg1 harg1 arg2 harg2 arg3 harg3 arg4 harg4 x0 x1 x2 x3
            (arg6.view.readCov (Val := Elt F) [⟨Rect.unit (s := S256x256) ![0, 0] S256x256.size inb_S256x256_S256x256_0_0, k0_pay3⟩]
              (Rect.unit (s := S256x256) ![0, 0] S256x256.size inb_S256x256_S256x256_0_0).toLoadRect))
          64 (Nat.le_refl 64) := by
  unfold kernelRun0_A
  rfl

/-- The states over the blocks themselves: what a load from a whole staging buffer reads is the block at the load's rectangle. -/
def loaded (x : FVec F S256x256 .f32) (n : ℕ) (h : n ≤ 64) : FVec F S256x256 .f32 :=
  iter x2 (fun j h => View.ld x3 (Rect.unit (s := S64x256) ![j, 0] S1x256.size (inb_b j h)))
    (fun j h => View.ld x0 (Rect.unit (s := S64x136x128) ![j, 0, 0] S1x128x128.size (inb_a11 j h)))
    (fun j h => View.ld x0 (Rect.unit (s := S64x136x128) ![j, 128, 0] S1x8x128.size (inb_slab j h)))
    (fun j h => View.ld x1 (Rect.unit (s := S64x128x128) ![j, 0, 0] S1x128x128.size (inb_a22 j h)))
    x n h

/-- The offset of a block read whole is zero on every axis. -/
theorem off_zero : (![0, 0] : Fin 2 → Nat) = fun _ => 0 := by funext a; fin_cases a <;> rfl

/-- What the run loads is what the blocks hold. -/
theorem states_eq : states arg1 harg1 arg2 harg2 arg3 harg3 arg4 harg4 x0 x1 x2 x3 = loaded x0 x1 x2 x3 := by
  funext x n h
  unfold states loaded
  simp only [View.readAt_eq_ld, harg1.read_unread, harg2.read_unread, harg3.read_unread, harg4.read_unread]
  rw [View.ld_unit_zero off_zero]

/-- Case B leaves the output block filled with the sixty-four states from the carried scratch. -/
theorem out_B (hc0 : ¬cond0_0 i) :
    out0_B_4 c i arg1 harg1 arg2 harg2 arg3 harg3 arg4 harg4 arg5 harg5 arg6 harg6 hc0 x0 x1 x2 x3 xs0
      = View.canon (stores (loaded x0 x1 x2 x3 xs0) 64 (Nat.le_refl 64)) := by
  unfold out0_B_4
  rw [View.read_writes_eq_canon _ _ _ (cover0_B_4 c i arg1 harg1 arg2 harg2 arg3 harg3 arg4 harg4 arg5 harg5 arg6 harg6 hc0 x0 x1 x2 x3 xs0),
    output_B, states_eq, View.readAt_eq_ld, harg6.read_unread, View.ld_unit_zero off_zero]
/-- Case B leaves the scratch holding the last of them. -/
theorem sout_B (hc0 : ¬cond0_0 i) :
    sout0_B_0 c i arg1 harg1 arg2 harg2 arg3 harg3 arg4 harg4 arg5 harg5 arg6 harg6 hc0 x0 x1 x2 x3 xs0
      = loaded x0 x1 x2 x3 xs0 64 (Nat.le_refl 64) := by
  unfold sout0_B_0
  rw [View.read_writes_eq_canon _ _ _ (scover0_B_0 c i arg1 harg1 arg2 harg2 arg3 harg3 arg4 harg4 arg5 harg5 arg6 harg6 hc0 x0 x1 x2 x3 xs0),
    scratch_B, states_eq, View.readAt_eq_ld, harg6.read_unread, View.ld_unit_zero off_zero]
  exact (View.canon_unit_zero off_zero _ _).trans (shapeCast_self _ _)
/-- Case A leaves the output block filled with the sixty-four states from zeros. -/
theorem out_A (hc0 : cond0_0 i) :
    out0_A_4 c i arg1 harg1 arg2 harg2 arg3 harg3 arg4 harg4 arg5 harg5 arg6 harg6 hc0 x0 x1 x2 x3
      = View.canon (stores (loaded x0 x1 x2 x3 k0_pay3) 64 (Nat.le_refl 64)) := by
  unfold out0_A_4
  rw [View.read_writes_eq_canon _ _ _ (cover0_A_4 c i arg1 harg1 arg2 harg2 arg3 harg3 arg4 harg4 arg5 harg5 arg6 harg6 hc0 x0 x1 x2 x3),
    output_A, states_eq, View.readCov_unit_zero _ off_zero]
/-- Case A leaves the scratch holding the last of them. -/
theorem sout_A (hc0 : cond0_0 i) :
    sout0_A_0 c i arg1 harg1 arg2 harg2 arg3 harg3 arg4 harg4 arg5 harg5 arg6 harg6 hc0 x0 x1 x2 x3
      = loaded x0 x1 x2 x3 k0_pay3 64 (Nat.le_refl 64) := by
  unfold sout0_A_0
  rw [View.read_writes_eq_canon _ _ _ (scover0_A_0 c i arg1 harg1 arg2 harg2 arg3 harg3 arg4 harg4 arg5 harg5 arg6 harg6 hc0 x0 x1 x2 x3),
    scratch_A, states_eq, View.readCov_unit_zero _ off_zero]
  exact (View.canon_cons_unit_zero off_zero _ _ _).trans (shapeCast_self _ _)

end

end Cert.Proof.Body

end
-- ==== Proof.Recurrence.lean ====
/- The recurrence both programs compute, over the extended reals and naming neither program: a state of 256 rows by 256 columns,
   advanced by a transition matrix, a row added in proportion to an input. With it the matrix the kernel multiplies by, written
   over a whole matrix, and the condition under which it is the whole matrix again. -/
module

public import Idealize.ShloMosaic.Lib.ValueIdx

@[expose] public section

noncomputable section

namespace Cert.Proof

open Idealize.ShloMosaic

/-- The state after `t` steps from zeros: step `t` multiplies row by row by the transpose of `A t` and adds `inp t b * B t n`. -/
def recur (inp : ℕ → Fin 256 → EReal) (A : ℕ → Fin 256 → Fin 256 → EReal) (B : ℕ → Fin 256 → EReal) : ℕ → Fin 256 → Fin 256 → EReal
  | 0 => fun _ _ => 0
  | t + 1 => fun b n => inp t b * B t n + ∑ k : Fin 256, recur inp A B t b k * A t n k

/-- The recurrence reads its operands only at the steps taken. -/
theorem recur_congr {inp inp' : ℕ → Fin 256 → EReal} {A A' : ℕ → Fin 256 → Fin 256 → EReal} {B B' : ℕ → Fin 256 → EReal}
    (t : ℕ) (hi : ∀ s, s < t → inp s = inp' s) (hA : ∀ s, s < t → A s = A' s) (hB : ∀ s, s < t → B s = B' s) :
    recur inp A B t = recur inp' A' B' t := by
  induction t with
  | zero => rfl
  | succ t ih =>
    funext b n
    show _ + _ = _ + _
    rw [hi t (Nat.lt_succ_self t), hA t (Nat.lt_succ_self t), hB t (Nat.lt_succ_self t),
      ih (fun s h => hi s (Nat.lt_succ_of_lt h)) (fun s h => hA s (Nat.lt_succ_of_lt h)) (fun s h => hB s (Nat.lt_succ_of_lt h))]

/-- A matrix rebuilt from its upper left quarter, its lower right quarter and eight rows of the lower left quarter: zeros at the
    upper right, and below those eight rows the column 128 times the row 135 over their common entry. -/
def completed (M : Fin 256 → Fin 256 → EReal) (n k : Fin 256) : EReal :=
  if n.val < 128 then (if k.val < 128 then M n k else 0)
  else if k.val < 128 then (if n.val < 136 then M n k else M n 128 * Ideal.div (M 135 k) (M 135 128))
  else M n k

/-- What a matrix must satisfy at one entry to be rebuilt there. -/
def Structured (M : Fin 256 → Fin 256 → EReal) (n k : Fin 256) : Prop :=
  (n.val < 128 → 128 ≤ k.val → M n k = 0) ∧
  (136 ≤ n.val → k.val < 128 →
    (M 135 128 ≠ 0 ∧ M 135 128 ≠ ⊤ ∧ M 135 128 ≠ ⊥ ∧ M n k * M 135 128 = M n 128 * M 135 k)
      ∨ (M 135 128 = 0 ∧ M n 128 = 0 ∧ M n k = 0))

/-- A finite extended real that is not zero times its inverse is one. -/
theorem mul_inv_finite {d : EReal} (hd : d ≠ 0) (ht : d ≠ ⊤) (hb : d ≠ ⊥) : d * d⁻¹ = 1 := by
  lift d to ℝ using ⟨ht, hb⟩
  rw [← EReal.coe_inv, ← EReal.coe_mul, mul_inv_cancel₀ (fun h => hd (by rw [h]; rfl)), EReal.coe_one]

/-- A matrix that satisfies the condition is the one rebuilt from its parts. -/
theorem completed_eq (M : Fin 256 → Fin 256 → EReal) (h : ∀ n k, Structured M n k) : completed M = M := by
  funext n k
  unfold completed
  obtain ⟨h1, h2⟩ := h n k
  by_cases hn : n.val < 128
  · rw [if_pos hn]
    by_cases hk : k.val < 128
    · rw [if_pos hk]
    · rw [if_neg hk, h1 hn (Nat.le_of_not_lt hk)]
  · rw [if_neg hn]
    by_cases hk : k.val < 128
    · rw [if_pos hk]
      by_cases hr : n.val < 136
      · rw [if_pos hr]
      · rw [if_neg hr]
        rcases h2 (Nat.le_of_not_lt hr) hk with ⟨hd, ht, hb, he⟩ | ⟨hd, hc, hz⟩
        · rw [Ideal.div, if_neg hd, ← mul_assoc, ← he, mul_assoc, mul_inv_finite hd ht hb, mul_one]
        · rw [hc, hz, zero_mul]
    · rw [if_neg hk]

/-- The inputs of step `t`, row `t` of the array (past its end the rows start over, so that every step has some). -/
def inputsAt (a : (⟨2, ![1024, 256]⟩ : Shape).Idx → EReal) (t : ℕ) (b : Fin 256) : EReal :=
  a (ValueIdx.ix2 ⟨t % 1024, Nat.mod_lt t (by decide)⟩ b)
/-- The transition matrix of step `t`. -/
def matrixAt (a : (⟨3, ![1024, 256, 256]⟩ : Shape).Idx → EReal) (t : ℕ) (n k : Fin 256) : EReal :=
  a (ValueIdx.ix3 ⟨t % 1024, Nat.mod_lt t (by decide)⟩ n k)

/-- A step within the array reads its own row of it. -/
theorem inputsAt_eq (a : (⟨2, ![1024, 256]⟩ : Shape).Idx → EReal) (t : Fin 1024) (b : Fin 256) :
    inputsAt a t b = a (ValueIdx.ix2 t b) := by
  unfold inputsAt
  exact congrArg (fun q => a (ValueIdx.ix2 q b)) (Fin.ext (Nat.mod_eq_of_lt t.isLt))
/-- A step within the array reads its own matrix of it. -/
theorem matrixAt_eq (a : (⟨3, ![1024, 256, 256]⟩ : Shape).Idx → EReal) (t : Fin 1024) (n k : Fin 256) :
    matrixAt a t n k = a (ValueIdx.ix3 t n k) := by
  unfold matrixAt
  exact congrArg (fun q => a (ValueIdx.ix3 q n k)) (Fin.ext (Nat.mod_eq_of_lt t.isLt))

end Cert.Proof

end
-- ==== Proof.StepValue.lean ====
/- The kernel's step at an index, over the extended reals: the rebuilt matrix entry by entry, one step as one step of the recurrence,
   and the states a block's sixty-four steps go through. -/
module

public import proofs.«01_k».proof.Proof.KernelBody
public import proofs.«01_k».proof.Proof.Recurrence
public import Idealize.ShloMosaic.Lib.Pipeline.Value

@[expose] public section

set_option synthInstance.maxSize 4096

noncomputable section

namespace Cert.Proof.Body

open Idealize.ShloMosaic Idealize.ShloMosaic.ValueIdx Idealize.SL.Sem Cert.KernelIdeal Cert.KernelIdeal.Gen

/-- One of the first 136 rows, as a row of the whole matrix. -/
abbrev up (a : Fin 136) : Fin 256 := ⟨a.val, Nat.lt_trans a.isLt (by decide)⟩
/-- A coordinate of the upper or left half, as one of the whole matrix. -/
abbrev lo (a : Fin 128) : Fin 256 := ⟨a.val, Nat.lt_trans a.isLt (by decide)⟩
/-- A coordinate of the lower or right half, as one of the whole matrix. -/
abbrev hi (a : Fin 128) : Fin 256 := ⟨128 + a.val, Nat.add_lt_add_left a.isLt 128⟩
/-- One of the eight stored rows, as a row of the whole matrix. -/
abbrev mid (a : Fin 8) : Fin 256 := ⟨128 + a.val, Nat.lt_trans (Nat.add_lt_add_left a.isLt 128) (by decide)⟩

/-- The word of the zero constant is zero. -/
theorem ofBits_zero : Ideal.ofBits .f32 0x00000000#32 = 0 := by
  simp [Ideal.ofBits, Ideal.ieee, -EReal.coe_mul]

/-- Dropping a unit axis in front reads the one entry there is along it. -/
theorem cast_apply {n0 n1 : ℕ} (v : Vec Ideal ⟨3, ![1, n0, n1]⟩ .f32) (h : (⟨3, ![1, n0, n1]⟩ : Shape).ShapeCasts ⟨2, ![n0, n1]⟩)
    (a : Fin n0) (k : Fin n1) : shapeCast ⟨2, ![n0, n1]⟩ v h (ix2 a k) = v (ix3 0 a k) := by
  rw [shapeCast_dropUnit_apply]
  exact congrArg v (funext fun a => by fin_cases a <;> rfl)

section
variable (M : Fin 256 → Fin 256 → EReal) (a11 : Vec Ideal S1x128x128 .f32) (slab : Vec Ideal S1x8x128 .f32) (a22 : Vec Ideal S1x128x128 .f32)
  (h11 : ∀ a k, a11 (ix3 0 a k) = M (lo a) (lo k)) (hs : ∀ a k, slab (ix3 0 a k) = M (mid a) (lo k))
  (h22 : ∀ a k, a22 (ix3 0 a k) = M (hi a) (hi k))

include h11 hs h22 in
/-- The rebuilt matrix is the completion of the matrix its parts were read from. -/
theorem rebuilt_apply (n k : Fin 256) : rebuilt a11 slab a22 (ix2 n k) = completed M n k := by
  unfold rebuilt completed
  by_cases hn : n.val < 128
  · rw [if_pos hn]
    rw [concatenate_pair_apply_left (s₁ := S128x256) (s₂ := S128x256) 0 _ _ _ (ix2 n k) rfl (ix2 ⟨n.val, hn⟩ k) (by intro b; fin_cases b <;> rfl)]
    by_cases hk : k.val < 128
    · rw [if_pos hk]
      rw [concatenate_pair_apply_left (t := S128x256) (s₁ := S128x128) (s₂ := S128x128) 1 _ _ _ _ rfl (ix2 ⟨n.val, hn⟩ ⟨k.val, hk⟩) (by intro b; fin_cases b <;> rfl)]
      rw [cast_apply, h11]
    · rw [if_neg hk]
      rw [concatenate_pair_apply_right (t := S128x256) (s₁ := S128x128) (s₂ := S128x128) 1 _ _ _ _ rfl rfl (ix2 ⟨n.val, hn⟩ ⟨k.val - 128, by omega⟩)
        (by intro b hb; fin_cases b; rfl; exact absurd rfl hb) (by show k.val - 128 + 128 = k.val; omega)]
      exact ofBits_zero
  · rw [if_neg hn]
    rw [concatenate_pair_apply_right (s₁ := S128x256) (s₂ := S128x256) 0 _ _ _ (ix2 n k) rfl rfl (ix2 ⟨n.val - 128, by omega⟩ k)
        (by intro b hb; fin_cases b; exact absurd rfl hb; rfl) (by show n.val - 128 + 128 = n.val; omega)]
    by_cases hk : k.val < 128
    · rw [if_pos hk]
      rw [concatenate_pair_apply_left (t := S128x256) (s₁ := S128x128) (s₂ := S128x128) 1 _ _ _ _ rfl (ix2 ⟨n.val - 128, by omega⟩ ⟨k.val, hk⟩) (by intro b; fin_cases b <;> rfl)]
      by_cases hr : n.val < 136
      · rw [if_pos hr]
        rw [concatenate_pair_apply_left (t := S128x128) (s₁ := S8x128) (s₂ := S120x128) 0 _ _ _ _ rfl (ix2 ⟨n.val - 128, by omega⟩ ⟨k.val, hk⟩) (by intro b; fin_cases b <;> rfl)]
        rw [cast_apply, hs]
        congr 1
        exact Fin.ext (by show 128 + (n.val - 128) = n.val; omega)
      · rw [if_neg hr]
        rw [concatenate_pair_apply_right (t := S128x128) (s₁ := S8x128) (s₂ := S120x128) 0 _ _ _ _ rfl rfl (ix2 ⟨n.val - 136, by omega⟩ ⟨k.val, hk⟩)
          (by intro b hb; fin_cases b; exact absurd rfl hb; rfl) (by show n.val - 136 + 8 = n.val - 128; omega)]
        rw [extractStridedSlice_apply _ _ _ _ (ix2 ⟨n.val - 128, by omega⟩ ⟨k.val, hk⟩)
          (by intro a; fin_cases a; (show n.val - 128 = 8 + (n.val - 136); omega); (show k.val = 0 + k.val; omega))]
        rw [mulf_apply, broadcastTo_apply _ _ _ (ix2 ⟨n.val - 128, by omega⟩ 0) (by intro a; fin_cases a <;> rfl),
          broadcastTo_apply _ _ _ (ix2 0 ⟨k.val, hk⟩) (by intro a; fin_cases a <;> rfl), divf_apply,
          extractStridedSlice_apply _ _ _ _ (ix2 ⟨n.val - 128, by omega⟩ 0)
            (by intro a; fin_cases a; (show n.val - 128 = 0 + (n.val - 128); omega); rfl),
          extractStridedSlice_apply _ _ _ _ (ix2 7 ⟨k.val, hk⟩)
            (by intro a; fin_cases a; rfl; (show k.val = 0 + k.val; omega)),
          broadcastTo_apply _ _ _ (ix2 0 0) (by intro a; fin_cases a <;> rfl),
          extractStridedSlice_apply _ _ _ _ (ix2 7 0) (by intro a; fin_cases a <;> rfl),
          cast_apply, cast_apply, cast_apply, h22, h22, hs]
        have e : hi ⟨n.val - 128, by omega⟩ = n := Fin.ext (by show 128 + (n.val - 128) = n.val; omega)
        rw [e]; rfl
    · rw [if_neg hk]
      rw [concatenate_pair_apply_right (t := S128x256) (s₁ := S128x128) (s₂ := S128x128) 1 _ _ _ _ rfl rfl (ix2 ⟨n.val - 128, by omega⟩ ⟨k.val - 128, by omega⟩)
        (by intro b hb; fin_cases b; rfl; exact absurd rfl hb) (by show k.val - 128 + 128 = k.val; omega)]
      rw [cast_apply, h22]
      congr 1 <;> exact Fin.ext (by first | (show 128 + (n.val - 128) = n.val; omega) | (show 128 + (k.val - 128) = k.val; omega))
end

/-- The product's left operand is read at the row and the summed coordinate. -/
theorem lhs_at (r n k : Fin 256) :
    dot_S256x256_S256x256_S256x256_1_1_0_0_n_n.lhsIdx (ix2 r n) ((contrEquiv1 dot_S256x256_S256x256_S256x256_1_1_0_0_n_n 256 rfl rfl).symm k) = ix2 r k := by
  funext a
  fin_cases a
  · exact Fin.ext (by simp [DotDims.lhsIdx, dot_S256x256_S256x256_S256x256_1_1_0_0_n_n]; rfl)
  · exact Fin.ext (by simp [DotDims.lhsIdx, dot_S256x256_S256x256_S256x256_1_1_0_0_n_n, contrEquiv1]; rfl)
/-- The product's right operand is read at the column, as its row, and the summed coordinate. -/
theorem rhs_at (r n k : Fin 256) :
    dot_S256x256_S256x256_S256x256_1_1_0_0_n_n.rhsIdx (ix2 r n) ((contrEquiv1 dot_S256x256_S256x256_S256x256_1_1_0_0_n_n 256 rfl rfl).symm k) = ix2 n k := by
  funext a
  fin_cases a
  · exact Fin.ext (by simp [DotDims.rhsIdx, dot_S256x256_S256x256_S256x256_1_1_0_0_n_n]; rfl)
  · exact Fin.ext (by simp [DotDims.rhsIdx, dot_S256x256_S256x256_S256x256_1_1_0_0_n_n, contrEquiv1]; rfl)

/-- One step at an index: the input times the row's entry, plus the state's row times the matrix's row. -/
theorem advance_apply (inp : Vec Ideal S64x256 .f32) (j : ℕ) (h : j < 64) (b : Vec Ideal S1x256 .f32) (a11 : Vec Ideal S1x128x128 .f32)
    (slab : Vec Ideal S1x8x128 .f32) (a22 : Vec Ideal S1x128x128 .f32) (x : FVec Ideal S256x256 .f32) (r n : Fin 256) :
    advance inp j h b a11 slab a22 x (ix2 r n)
      = inp (ix2 ⟨j, h⟩ r) * b (ix2 0 n) + ∑ k : Fin 256, x (ix2 r k) * rebuilt a11 slab a22 (ix2 n k) := by
  unfold advance
  rw [addf_apply, mulf_apply]
  congr 1
  · rw [broadcastTo_apply _ _ _ (ix2 r 0) (by intro a; fin_cases a <;> rfl),
      extractStridedSlice_apply _ _ _ _ (ix2 r ⟨j, h⟩) (by intro a; fin_cases a; (show r.val = 0 + r.val; omega); rfl),
      broadcastTo_apply _ _ _ (ix2 0 n) (by intro a; fin_cases a <;> rfl)]
    congr 1
    unfold k0_pay5 transpose
    refine congrArg inp (funext fun a => ?_)
    fin_cases a
    · exact Fin.ext (by simp [Shape.Transposes.src]; rfl)
    · exact Fin.ext (by simp [Shape.Transposes.src]; rfl)
  · show Ideal.matmul _ _ _ _ _ = _
    unfold Ideal.matmul
    rw [constant_apply, ofBits_zero, zero_add,
      ← Equiv.sum_comp (contrEquiv1 dot_S256x256_S256x256_S256x256_1_1_0_0_n_n 256 rfl rfl).symm]
    exact Finset.sum_congr rfl fun k _ => by rw [lhs_at, rhs_at]

section
variable (inp : ℕ → Fin 256 → EReal) (M : ℕ → Fin 256 → Fin 256 → EReal) (B : ℕ → Fin 256 → EReal) (s : ℕ)
  (x0 : Vec Ideal S64x136x128 .f32) (x1 : Vec Ideal S64x128x128 .f32) (x2 : Vec Ideal S64x256 .f32) (x3 : Vec Ideal S64x256 .f32)
  (h0 : ∀ (j : Fin 64) (a : Fin 136) (k : Fin 128), x0 (ix3 j a k) = M (s + j) (up a) (lo k))
  (h1 : ∀ (j : Fin 64) (a k : Fin 128), x1 (ix3 j a k) = M (s + j) (hi a) (hi k))
  (h2 : ∀ (j : Fin 64) (r : Fin 256), x2 (ix2 j r) = inp (s + j) r)
  (h3 : ∀ (j : Fin 64) (n : Fin 256), x3 (ix2 j n) = B (s + j) n)

include h0 h1 h2 h3 in
/-- Blocks that hold steps `s … s + 63` of the operands carry the recurrence over the completed matrices from its state after `s`
    steps to its state after `s + n`. -/
theorem loaded_apply (x : FVec Ideal S256x256 .f32) (hx : ∀ r k, x (ix2 r k) = recur inp (fun t => completed (M t)) B s r k)
    (n : ℕ) (hn : n ≤ 64) (r k : Fin 256) :
    loaded x0 x1 x2 x3 x n hn (ix2 r k) = recur inp (fun t => completed (M t)) B (s + n) r k := by
  induction n generalizing r k with
  | zero => exact hx r k
  | succ n ih =>
    have hlt : n < 64 := hn
    refine (advance_apply _ n hlt _ _ _ _ _ r k).trans ?_
    show _ = inp (s + n) r * B (s + n) k + ∑ q : Fin 256, recur inp (fun t => completed (M t)) B (s + n) r q * completed (M (s + n)) k q
    congr 1
    · rw [h2]
      congr 1
      refine (congrArg x3 ?_).trans (h3 ⟨n, hlt⟩ k)
      funext a; fin_cases a
      · exact Fin.ext (by simp [LoadRect.idx, Rect.unit, Rect.toLoadRect, ix2])
      · exact Fin.ext (by simp [LoadRect.idx, Rect.unit, Rect.toLoadRect, ix2])
    · refine Finset.sum_congr rfl fun q _ => ?_
      refine congrArg₂ (· * ·) (ih (Nat.le_of_succ_le hn) r q) ?_
      refine rebuilt_apply (M (s + n)) _ _ _ ?_ ?_ ?_ k q
      · intro a k
        refine (congrArg x0 ?_).trans (h0 ⟨n, hlt⟩ ⟨a.val, by omega⟩ k)
        funext a; fin_cases a <;> exact Fin.ext (by simp [LoadRect.idx, Rect.unit, Rect.toLoadRect, ix3])
      · intro a k
        refine (congrArg x0 ?_).trans (h0 ⟨n, hlt⟩ ⟨128 + a.val, by omega⟩ k)
        funext a; fin_cases a <;> exact Fin.ext (by simp [LoadRect.idx, Rect.unit, Rect.toLoadRect, ix3])
      · intro a k
        refine (congrArg x1 ?_).trans (h1 ⟨n, hlt⟩ a k)
        funext a; fin_cases a <;> exact Fin.ext (by simp [LoadRect.idx, Rect.unit, Rect.toLoadRect, ix3])
end

/-- The block the stores leave reads, at row `j`, the state after `j + 1` steps. -/
theorem canon_stores (X : (n : ℕ) → n ≤ 64 → FVec Ideal S256x256 .f32) (n : ℕ) (hn : n ≤ 64) (j : Fin 64) (hj : j.val < n)
    (r k : Fin 256) : View.canon (stores X n hn) (ix3 j r k) = X (j.val + 1) j.isLt (ix2 r k) := by
  induction n with
  | zero => exact absurd hj (Nat.not_lt_zero _)
  | succ n ih =>
    unfold stores
    by_cases h : j.val = n
    · subst h
      have e : ix3 j r k = (Rect.unit (s := S64x256x256) ![j.val, 0, 0] S1x256x256.size (row_inb j.val hn)).emb (ix3 0 r k) := by
        funext a; fin_cases a <;> exact Fin.ext (by simp [Rect.emb, Rect.unit, ix3])
      rw [e, View.canon_cons_emb]
      refine (shapeCast_addUnit_apply (n := 2) _ _ _ _).trans (congrArg _ ?_)
      funext a; fin_cases a <;> rfl
    · rw [View.canon_cons_of_not_mem]
      · exact ih (Nat.le_of_succ_le hn) (by omega)
      · rw [Rect.mem_set_unit]
        intro hc
        have := (hc 0).1
        exact h (Nat.le_antisymm (Nat.le_of_lt_succ hj) this)

end Cert.Proof.Body

end
-- ==== Proof.KernelArray.lean ====
/- The array the kernel leaves, over the extended reals and with no condition on the arguments: entry (t, b, n) is the recurrence's
   state after t + 1 steps over the completed matrices. By induction over the sixteen grid points, each a block of sixty-four steps. -/
module

public import proofs.«01_k».proof.Proof.StepValue

@[expose] public section

set_option synthInstance.maxSize 4096

noncomputable section

namespace Cert.Proof.Array

open Idealize.ShloMosaic Idealize.ShloMosaic.TcCoe Idealize.ShloMosaic.ValueIdx Idealize.SL.Sem
open Cert.KernelIdeal Cert.KernelIdeal.Gen Cert.KernelIdeal.Value Cert.Proof.Body

variable (m : (ℓ : Loc nD τ sig) → Buf (Elt Ideal) ℓ) (c : Dev nD)

/-- Argument 0 of the launch, the inputs. -/
abbrev arg0 : (⟨2, ![1024, 256]⟩ : Shape).Idx → EReal := m ((c : Thread nD τ).loc main_arg0)
/-- Argument 1, the transition matrices. -/
abbrev arg1 : (⟨3, ![1024, 256, 256]⟩ : Shape).Idx → EReal := m ((c : Thread nD τ).loc main_arg1)
/-- Argument 2, the rows the inputs are spread along. -/
abbrev arg2 : (⟨2, ![1024, 256]⟩ : Shape).Idx → EReal := m ((c : Thread nD τ).loc main_arg2)

/-- The state the kernel holds after `t` steps. -/
abbrev state (t : ℕ) : Fin 256 → Fin 256 → EReal :=
  recur (inputsAt (arg0 m c)) (fun t => completed (matrixAt (arg1 m c) t)) (inputsAt (arg2 m c)) t

/-- The place of the left columns' block at each grid point. -/
theorem index0 : ∀ t : Fin cfg0.N, win0_0.index t (0 : Fin 3) = t.val ∧ win0_0.index t (1 : Fin 3) = 0 ∧ win0_0.index t (2 : Fin 3) = 0 :=
  (by decide +kernel : ∀ t : Fin grid0.N, _)
/-- The place of the lower right quarter's block at each grid point. -/
theorem index1 : ∀ t : Fin cfg0.N, win0_1.index t (0 : Fin 3) = t.val ∧ win0_1.index t (1 : Fin 3) = 1 ∧ win0_1.index t (2 : Fin 3) = 1 :=
  (by decide +kernel : ∀ t : Fin grid0.N, _)
/-- The place of the inputs' block at each grid point. -/
theorem index2 : ∀ t : Fin cfg0.N, win0_2.index t (0 : Fin 2) = t.val ∧ win0_2.index t (1 : Fin 2) = 0 :=
  (by decide +kernel : ∀ t : Fin grid0.N, _)
/-- The place of the added rows' block at each grid point. -/
theorem index3 : ∀ t : Fin cfg0.N, win0_3.index t (0 : Fin 2) = t.val ∧ win0_3.index t (1 : Fin 2) = 0 :=
  (by decide +kernel : ∀ t : Fin grid0.N, _)

/-- Step `j` of grid point `t` is a row of the arrays. -/
theorem step_lt (t : Fin cfg0.N) (j : Fin 64) : 64 * t.val + j.val < 1024 := by
  have := lt_of_lt_of_eq t.isLt (show cfg0.N = 16 from N_0); omega

/-- The first block holds the upper 136 rows, left half, of the point's sixty-four matrices. -/
theorem block0 (t : Fin cfg0.N) (j : Fin 64) (a : Fin 136) (k : Fin 128) :
    (X0_0 m c t : Vec Ideal S64x136x128 .f32) (ix3 j a k) = matrixAt (arg1 m c) (64 * t.val + j) (up a) (lo k) := by
  obtain ⟨e0, e1, e2⟩ := index0 t
  refine Eq.trans ?_ (matrixAt_eq (arg1 m c) ⟨64 * t.val + j, step_lt t j⟩ (up a) (lo k)).symm
  unfold X0_0 Pipeline.Window.fill
  rw [dif_pos (moved0_0 t _)]
  unfold iblk
  rw [View.read_apply, cast_eq]
  refine congrArg (arg1 m c) (funext fun d => Fin.ext ?_)
  match d with
  | ⟨0, _⟩ => show win0_0.index t (0 : Fin 3) * 64 + 1 * j.val = 64 * t.val + j.val; omega
  | ⟨1, _⟩ => show win0_0.index t (1 : Fin 3) * 136 + 1 * a.val = a.val; omega
  | ⟨2, _⟩ => show win0_0.index t (2 : Fin 3) * 128 + 1 * k.val = k.val; omega
/-- The second holds their lower right quarters. -/
theorem block1 (t : Fin cfg0.N) (j : Fin 64) (a k : Fin 128) :
    (iblk m c 1 t : Vec Ideal S64x128x128 .f32) (ix3 j a k) = matrixAt (arg1 m c) (64 * t.val + j) (hi a) (hi k) := by
  obtain ⟨e0, e1, e2⟩ := index1 t
  refine Eq.trans ?_ (matrixAt_eq (arg1 m c) ⟨64 * t.val + j, step_lt t j⟩ (hi a) (hi k)).symm
  unfold iblk
  rw [View.read_apply, cast_eq]
  refine congrArg (arg1 m c) (funext fun d => Fin.ext ?_)
  match d with
  | ⟨0, _⟩ => show win0_1.index t (0 : Fin 3) * 64 + 1 * j.val = 64 * t.val + j.val; omega
  | ⟨1, _⟩ => show win0_1.index t (1 : Fin 3) * 128 + 1 * a.val = 128 + a.val; omega
  | ⟨2, _⟩ => show win0_1.index t (2 : Fin 3) * 128 + 1 * k.val = 128 + k.val; omega
/-- The third holds their inputs. -/
theorem block2 (t : Fin cfg0.N) (j : Fin 64) (r : Fin 256) :
    (iblk m c 2 t : Vec Ideal S64x256 .f32) (ix2 j r) = inputsAt (arg0 m c) (64 * t.val + j) r := by
  obtain ⟨e0, e1⟩ := index2 t
  refine Eq.trans ?_ (inputsAt_eq (arg0 m c) ⟨64 * t.val + j, step_lt t j⟩ r).symm
  unfold iblk
  rw [View.read_apply, cast_eq]
  refine congrArg (arg0 m c) (funext fun d => Fin.ext ?_)
  match d with
  | ⟨0, _⟩ => show win0_2.index t (0 : Fin 2) * 64 + 1 * j.val = 64 * t.val + j.val; omega
  | ⟨1, _⟩ => show win0_2.index t (1 : Fin 2) * 256 + 1 * r.val = r.val; omega
/-- The fourth holds their rows. -/
theorem block3 (t : Fin cfg0.N) (j : Fin 64) (r : Fin 256) :
    (iblk m c 3 t : Vec Ideal S64x256 .f32) (ix2 j r) = inputsAt (arg2 m c) (64 * t.val + j) r := by
  obtain ⟨e0, e1⟩ := index3 t
  refine Eq.trans ?_ (inputsAt_eq (arg2 m c) ⟨64 * t.val + j, step_lt t j⟩ r).symm
  unfold iblk
  rw [View.read_apply, cast_eq]
  refine congrArg (arg2 m c) (funext fun d => Fin.ext ?_)
  match d with
  | ⟨0, _⟩ => show win0_3.index t (0 : Fin 2) * 64 + 1 * j.val = 64 * t.val + j.val; omega
  | ⟨1, _⟩ => show win0_3.index t (1 : Fin 2) * 256 + 1 * r.val = r.val; omega

/-- What a grid point leaves when it starts from the state after the steps before it: each row of the output block the state after
    that row's step, and in the scratch the state after the block's last. -/
def Left (t : Fin cfg0.N) (p : Vec Ideal S64x256x256 .f32 × Vec Ideal S256x256 .f32) : Prop :=
  (∀ (j : Fin 64) (r k : Fin 256), p.1 (ix3 j r k) = state m c (64 * t.val + j + 1) r k)
    ∧ ∀ r k : Fin 256, p.2 (ix2 r k) = state m c (64 * (t.val + 1)) r k

/-- The states of a grid point that starts from the state after the steps before it. -/
theorem point_state (t : Fin cfg0.N) (x : FVec Ideal S256x256 .f32) (hx : ∀ r k, x (ix2 r k) = state m c (64 * t.val) r k)
    (n : ℕ) (hn : n ≤ 64) (r k : Fin 256) :
    loaded (X0_0 m c t) (iblk m c 1 t) (iblk m c 2 t) (iblk m c 3 t) x n hn (ix2 r k) = state m c (64 * t.val + n) r k :=
  loaded_apply (inputsAt (arg0 m c)) (matrixAt (arg1 m c)) (inputsAt (arg2 m c)) (64 * t.val) _ _ _ _
    (block0 m c t) (block1 m c t) (block2 m c t) (block3 m c t) x hx n hn r k

/-- The two halves of what a point leaves, from its states. -/
theorem left_of (t : Fin cfg0.N) (x : FVec Ideal S256x256 .f32) (hx : ∀ r k, x (ix2 r k) = state m c (64 * t.val) r k) :
    Left m c t (View.canon (stores (loaded (X0_0 m c t) (iblk m c 1 t) (iblk m c 2 t) (iblk m c 3 t) x) 64 (Nat.le_refl 64)),
      loaded (X0_0 m c t) (iblk m c 1 t) (iblk m c 2 t) (iblk m c 3 t) x 64 (Nat.le_refl 64)) := by
  have key := point_state m c t x hx
  generalize loaded (X0_0 m c t) (iblk m c 1 t) (iblk m c 2 t) (iblk m c 3 t) x = X at key ⊢
  generalize hY : stores X 64 (Nat.le_refl 64) = Y
  refine ⟨fun j r k => ?_, ?_⟩
  · dsimp only
    subst hY
    rw [canon_stores X 64 (Nat.le_refl 64) j j.isLt r k]
    exact key _ _ r k
  · exact fun r k => (key 64 (Nat.le_refl 64) r k).trans (congrArg (fun q => state m c q r k) (Nat.mul_succ 64 t.val).symm)

/-- Every grid point leaves the recurrence's states. -/
theorem outs_left (n : ℕ) : ∀ hn : n < cfg0.N, Left m c ⟨n, hn⟩ (outsAt0 m c n hn) := by
  induction n with
  | zero =>
    intro hn
    rw [outsAt0_zero, stAt0_A m c ⟨0, hn⟩ junk0 (Nat.zero_mod _), out_A, sout_A]
    refine left_of m c ⟨0, hn⟩ k0_pay3 fun r k => ?_
    unfold k0_pay3
    exact (congrFun (shapeCast_self _ _) _).trans ofBits_zero
  | succ n ih =>
    intro hn
    have hN := lt_of_lt_of_eq hn (show cfg0.N = 16 from N_0)
    rw [outsAt0_succ, stAt0_B m c ⟨n + 1, hn⟩ _ (by show ¬(n + 1) % 16 = 0; omega), out_B, sout_B]
    exact left_of m c ⟨n + 1, hn⟩ _ (ih (Nat.lt_of_succ_lt hn)).2

/-- The array the kernel leaves, entry by entry. -/
theorem array_apply (i : S1024x256x256.Idx) : G4 m c i = state m c ((i 0).val + 1) (i 1) (i 2) := by
  have h0 : (i 0).val < 1024 := (i 0).isLt
  have h1 : (i 1).val < 256 := (i 1).isLt
  have h2 : (i 2).val < 256 := (i 2).isLt
  have hp : pt4Of i = (i 0).val / 64 := by
    show 1 * ((i 0).val / 64 - 0) + 1 * ((i 1).val / 256 - 0) + 1 * ((i 2).val / 256 - 0) = _
    omega
  have hlt : pt4Of i < cfg0.N := by rw [hp]; exact lt_of_lt_of_eq (by omega) (show cfg0.N = 16 from N_0).symm
  unfold G4
  rw [dif_pos hlt, ← outsAt0_sweep m c _ hlt]
  have el : loc4Of i = ix3 ⟨(i 0).val % 64, Nat.mod_lt _ (by decide)⟩ ⟨(i 1).val, h1⟩ ⟨(i 2).val, h2⟩ := by
    funext a
    match a with
    | ⟨0, _⟩ => rfl
    | ⟨1, _⟩ => exact Fin.ext (Nat.mod_eq_of_lt h1)
    | ⟨2, _⟩ => exact Fin.ext (Nat.mod_eq_of_lt h2)
  rw [el, (outs_left m c _ hlt).1]
  have e : 64 * pt4Of i + (i 0).val % 64 + 1 = (i 0).val + 1 := by rw [hp]; omega
  exact congrArg (fun q => state m c q (i 1) (i 2)) e

end Cert.Proof.Array

end
-- ==== Proof.RefArray.lean ====
/- The array the reference leaves, over the extended reals: entry (t, b, n) is the recurrence's state after t + 1 steps over the
   matrices as given. The loop is followed by an invariant on what it carries: the trip's number, the matrices, the products of inputs
   and rows, the state, and the rows of the result written so far. -/
module

public import proofs.«01_k».proof.Proof.Gen.ReferenceIdeal.Run
public import proofs.«01_k».proof.Proof.Recurrence
public import Idealize.ShloMosaic.Lib.Pipeline.Value
public import Idealize.ShloMosaic.Lib.WordCmp

@[expose] public section

noncomputable section

namespace Cert.Proof.Ref

open Idealize.ShloMosaic Idealize.ShloMosaic.TcCoe Idealize.ShloMosaic.ValueIdx Idealize.SL.Sem Idealize.ShloMosaic.StableHlo
open Cert.ReferenceIdeal Cert.ReferenceIdeal.Gen Cert.ReferenceIdeal.Value

/-- A step's number as a 32-bit word read signed is the number. -/
theorem word_toInt (k : Fin 1024) : (BitVec.ofNat 32 k.val).toInt = (k.val : Int) := by
  have h := k.isLt
  rw [BitVec.toInt_eq_toNat_of_lt (by rw [BitVec.toNat_ofNat]; omega), BitVec.toNat_ofNat]
  omega

/-- Where a trip reads and writes: the first axis at the trip's number, the others at zero. -/
abbrev place (t : Fin 1024) : Fin 3 → ℕ := ![t.val, 0, 0]
/-- One layer of the stacked array lies in it. -/
theorem place_slices (t : Fin 1024) : S1024x256x256.Slices (place t) S1x256x256 := by
  refine ⟨rfl, fun a => ?_⟩
  fin_cases a
  · exact t.isLt
  · exact Nat.le_refl 256
  · exact Nat.le_refl 256

/-- The start of a trip's slices, computed from words, is its place. -/
theorem start_eq (t : Fin 1024) (a : Fin 3) :
    ((![(constantI S_ 32 (BitVec.ofNat 32 t.val) : (⟨S_, .i32⟩ : BufTy).Contents (Elt Ideal)), constantI S_ 32 0#32, constantI S_ 32 0#32] :
      Fin 3 → (⟨S_, .i32⟩ : BufTy).Contents (Elt Ideal)) a (Shape.Idx.first h_S_)).toInt = (place t a : Int) := by
  fin_cases a
  · exact word_toInt t
  · rfl
  · rfl

/-- The layer a trip slices out, its unit axis dropped, at an index. -/
theorem layer_apply (X : S1024x256x256.Idx → EReal) (start : Fin 3 → Int) (t : Fin 1024) (hs : ∀ a, start a = (place t a : Int))
    (a k : Fin 256) :
    shapeCast S256x256 (Host.dynamicSlice S1x256x256 X start sliceFits_S1024x256x256_S1x256x256) shapeCasts_S1x256x256_S256x256 (ix2 a k)
      = X (ix3 t a k) := by
  rw [Idealize.ShloMosaic.WordCmp.dynamicSlice_eq_extract S1x256x256 X start _ (place t) (place_slices t) hs]
  refine (shapeCast_dropUnit_apply (n := 2) _ _ _ _).trans ?_
  refine extractStridedSlice_apply _ _ _ _ _ fun d => ?_
  match d with
  | ⟨0, _⟩ => rfl
  | ⟨1, _⟩ => exact (Nat.zero_add a.val).symm
  | ⟨2, _⟩ => exact (Nat.zero_add k.val).symm

/-- The product's left operand is read at the row and the summed coordinate. -/
theorem lhs_at (r n k : Fin 256) :
    dot_S256x256_S256x256_S256x256_1_0_0_1_n_n.lhsIdx (ix2 r n) ((contrEquiv1 dot_S256x256_S256x256_S256x256_1_0_0_1_n_n 256 rfl rfl).symm k) = ix2 r k := by
  funext a
  fin_cases a
  · exact Fin.ext (by simp [DotDims.lhsIdx, dot_S256x256_S256x256_S256x256_1_0_0_1_n_n]; rfl)
  · exact Fin.ext (by simp [DotDims.lhsIdx, dot_S256x256_S256x256_S256x256_1_0_0_1_n_n, contrEquiv1]; rfl)
/-- The product's right operand is read at the summed coordinate and the column. -/
theorem rhs_at (r n k : Fin 256) :
    dot_S256x256_S256x256_S256x256_1_0_0_1_n_n.rhsIdx (ix2 r n) ((contrEquiv1 dot_S256x256_S256x256_S256x256_1_0_0_1_n_n 256 rfl rfl).symm k) = ix2 k n := by
  funext a
  fin_cases a
  · exact Fin.ext (by simp [DotDims.rhsIdx, dot_S256x256_S256x256_S256x256_1_0_0_1_n_n, contrEquiv1]; rfl)
  · exact Fin.ext (by simp [DotDims.rhsIdx, dot_S256x256_S256x256_S256x256_1_0_0_1_n_n]; rfl)

section
variable (inp : ℕ → Fin 256 → EReal) (A : ℕ → Fin 256 → Fin 256 → EReal) (B : ℕ → Fin 256 → EReal)

/-- What the loop carries before its trip number `k`. -/
structure Carried (k : ℕ) (V0 : Valuation τ sig (Elt Ideal)) : Prop where
  number : V0 (Proc.devRef .tc main_v7_2) = constantI S_ 32 (BitVec.ofNat 32 k)
  matrices : ∀ (t : Fin 1024) (n q : Fin 256), (V0 (Proc.devRef .tc main_v7_0) : S1024x256x256.Idx → EReal) (ix3 t n q) = A t n q
  driven : ∀ (t : Fin 1024) (b n : Fin 256), (V0 (Proc.devRef .tc main_v7_1) : S1024x256x256.Idx → EReal) (ix3 t b n) = inp t b * B t n
  state : ∀ b n : Fin 256, (V0 (Proc.devRef .tc main_v7_3) : S256x256.Idx → EReal) (ix2 b n) = recur inp A B k b n
  rows : ∀ t : Fin 1024, t.val < k → ∀ b n : Fin 256,
    (V0 (Proc.devRef .tc main_v7_4) : S1024x256x256.Idx → EReal) (ix3 t b n) = recur inp A B (t.val + 1) b n

variable {inp A B} {V0 : Valuation τ sig (Elt Ideal)}

/-- The state a trip computes is the recurrence's next. -/
theorem next_state (k : Fin 1024) (h : Carried inp A B k.val V0) (b n : Fin 256) :
    (res_main_while0b_v12 V0 : S256x256.Idx → EReal) (ix2 b n) = recur inp A B (k.val + 1) b n := by
  unfold res_main_while0b_v12
  rw [h.number]
  refine (addf_apply (φ := .f32) _ _ _).trans ?_
  refine congrArg₂ (· + ·) ((layer_apply _ _ k (start_eq k) b n).trans (h.driven k b n)) ?_
  show Ideal.matmul _ _ _ _ _ = _
  unfold Ideal.matmul
  rw [zero_add, ← Equiv.sum_comp (contrEquiv1 dot_S256x256_S256x256_S256x256_1_0_0_1_n_n 256 rfl rfl).symm]
  refine Finset.sum_congr rfl fun q _ => ?_
  rw [lhs_at, rhs_at]
  refine congrArg₂ (· * ·) (h.state b q) ?_
  refine Eq.trans ?_ ((layer_apply _ _ k (start_eq k) n q).trans (h.matrices k n q))
  unfold transpose
  refine congrArg _ (funext fun a => ?_)
  fin_cases a
  · exact Fin.ext (by simp [Shape.Transposes.src]; rfl)
  · exact Fin.ext (by simp [Shape.Transposes.src]; rfl)

/-- A trip carries the invariant on. -/
theorem carried_step (k : Fin 1024) (h : Carried inp A B k.val V0) : Carried inp A B (k.val + 1) (STEP V0) where
  number := by
    rw [STEP_main_v7_2]
    unfold step_main_v7_2
    rw [h.number]
    funext i
    show BitVec.ofNat 32 k.val + 1#32 = BitVec.ofNat 32 (k.val + 1)
    rw [BitVec.ofNat_add]
  matrices := by rw [STEP_main_v7_0]; exact h.matrices
  driven := by rw [STEP_main_v7_1]; exact h.driven
  state := by rw [STEP_main_v7_3]; exact next_state k h
  rows := by
    intro t ht b n
    rw [STEP_main_v7_4]
    unfold step_main_v7_4
    rw [h.number]
    refine (congrFun (Idealize.ShloMosaic.WordCmp.dynamicUpdateSlice_eq_update _ _ _ _ (place k) (place_slices k) (start_eq k)) (ix3 t b n)).trans ?_
    unfold updateSlice
    by_cases e : t = k
    · subst e
      rw [dif_pos (by
        intro a
        match a with
        | ⟨0, _⟩ => exact ⟨Nat.le_refl _, Nat.lt_succ_self _⟩
        | ⟨1, _⟩ => exact ⟨Nat.zero_le _, by show b.val < 0 + 256; omega⟩
        | ⟨2, _⟩ => exact ⟨Nat.zero_le _, by show n.val < 0 + 256; omega⟩)]
      refine (broadcastInDim_apply _ _ _ _ (ix2 b n) ?_).trans (next_state t h b n)
      intro a
      match a with
      | ⟨0, _⟩ => rfl
      | ⟨1, _⟩ => rfl
    · have hne : t.val ≠ k.val := fun c => e (Fin.ext c)
      rw [dif_neg (by
        intro hc
        have h0 : k.val ≤ t.val := (hc 0).1
        omega)]
      exact h.rows t (by omega) b n

/-- After all trips the result holds every state. -/
theorem carried_iter (h : Carried inp A B 0 V0) : ∀ k : ℕ, k ≤ 1024 → Carried inp A B k (STEP^[k] V0)
  | 0, _ => h
  | k + 1, hk => by
    rw [Function.iterate_succ_apply']
    exact carried_step ⟨k, hk⟩ (carried_iter h k (Nat.le_of_succ_le hk))
end

variable (m : (ℓ : Loc nD τ sig) → Buf (Elt Ideal) ℓ) (c : Dev nD)

/-- Argument 0 of the launch, the inputs. -/
abbrev arg0 : (⟨2, ![1024, 256]⟩ : Shape).Idx → EReal := m ((c.tc : Thread nD τ).loc main_arg0)
/-- Argument 1, the transition matrices. -/
abbrev arg1 : (⟨3, ![1024, 256, 256]⟩ : Shape).Idx → EReal := m ((c.tc : Thread nD τ).loc main_arg1)
/-- Argument 2, the rows the inputs are spread along. -/
abbrev arg2 : (⟨2, ![1024, 256]⟩ : Shape).Idx → EReal := m ((c.tc : Thread nD τ).loc main_arg2)

/-- The products of inputs and rows, as the program computes them before its loop. -/
abbrev products : FVec Ideal S1024x256x256 .f32 :=
  mulf (broadcastInDim S1024x256x256 ![0, 1, 2] bcast_S1024x256x1_S1024x256x256_0_1_2 (broadcastInDim S1024x256x1 ![0, 1] bcast_S1024x256_S1024x256x1_0_1 (arg0 m c)))
    (broadcastInDim S1024x256x256 ![0, 1, 2] bcast_S1024x1x256_S1024x256x256_0_1_2 (broadcastInDim S1024x1x256 ![0, 2] bcast_S1024x256_S1024x1x256_0_2 (arg2 m c)))

set_option maxRecDepth 65536 in
/-- What the operations before the loop leave in the five carried buffers. -/
theorem entry_values :
    entryContents preI m c (Proc.devRef .tc main_v7_2) = constantI S_ 32 (BitVec.ofNat 32 0)
    ∧ entryContents preI m c (Proc.devRef .tc main_v7_0) = arg1 m c
    ∧ entryContents preI m c (Proc.devRef .tc main_v7_1) = products m c
    ∧ entryContents preI m c (Proc.devRef .tc main_v7_3) = broadcastInDim S256x256 ![] bcast_S_S256x256 (constant (F := Ideal) S_ .f32 0x00000000#32) := by
  refine ⟨?_, ?_, ?_, ?_⟩ <;> (simp only [entryContents, afterL_cons, afterL_nil]; after_reads_simp) <;> rfl

/-- The invariant holds when the loop is entered. -/
theorem carried_entry :
    Carried (inputsAt (arg0 m c)) (matrixAt (arg1 m c)) (inputsAt (arg2 m c)) 0 (entryContents preI m c) where
  number := (entry_values m c).1
  matrices := by
    intro t n q
    rw [(entry_values m c).2.1]
    exact (matrixAt_eq (arg1 m c) t n q).symm
  driven := by
    intro t b n
    rw [(entry_values m c).2.2.1]
    refine (mulf_apply (φ := .f32) _ _ _).trans ?_
    rw [inputsAt_eq, inputsAt_eq]
    refine congrArg₂ (· * ·) ?_ ?_
    · refine (broadcastInDim_apply _ _ _ _ (ix3 t b 0) ?_).trans (broadcastInDim_apply _ _ _ _ (ix2 t b) ?_)
      · intro a; fin_cases a <;> rfl
      · intro a; fin_cases a <;> rfl
    · refine (broadcastInDim_apply _ _ _ _ (ix3 t 0 n) ?_).trans (broadcastInDim_apply _ _ _ _ (ix2 t n) ?_)
      · intro a; fin_cases a <;> rfl
      · intro a; fin_cases a <;> rfl
  state := by
    intro b n
    rw [(entry_values m c).2.2.2]
    refine (broadcastInDim_apply _ _ _ _ ix0 (fun a => a.elim0)).trans ?_
    show Ideal.ofBits .f32 0x00000000#32 = 0
    simp [Ideal.ofBits, Ideal.ieee, -EReal.coe_mul]
  rows := fun t ht => absurd ht (Nat.not_lt_zero _)

/-- The array the reference leaves, entry by entry. -/
theorem array_apply (t : Fin 1024) (b n : Fin 256) :
    ((STEP^[1024] (entryContents preI m c)) (Proc.devRef .tc main_v7_4) : S1024x256x256.Idx → EReal) (ix3 t b n)
      = recur (inputsAt (arg0 m c)) (matrixAt (arg1 m c)) (inputsAt (arg2 m c)) (t.val + 1) b n :=
  (carried_iter (carried_entry m c) 1024 (Nat.le_refl 1024)).rows t t.isLt b n

end Cert.Proof.Ref

end
-- ==== Proof.Structure.lean ====
/- What the stated condition on the arguments says of the transition matrices, entry by entry, over the extended reals. -/
module

public import proofs.«01_k».proof.Pre_hippo_structure
public import proofs.«01_k».proof.Proof.Gen.Pre_hippo_structure
public import proofs.«01_k».proof.Proof.Recurrence
public import Idealize.ShloMosaic.Lib.Pipeline.Value

@[expose] public section

noncomputable section

namespace Cert.Proof

open Idealize.ShloMosaic Idealize.ShloMosaic.ValueIdx Cert.Pre_hippo_structure Cert.Pre_hippo_structure.Facts

/-- A one-bit conjunction is set when both bits are. -/
theorem bit_and (x y : BitVec 1) : IntOp.andi x y = 1#1 ↔ x = 1#1 ∧ y = 1#1 := by revert x y; decide
/-- A one-bit disjunction is set when either bit is. -/
theorem bit_or (x y : BitVec 1) : IntOp.ori x y = 1#1 ↔ x = 1#1 ∨ y = 1#1 := by revert x y; decide
/-- A one-bit negation is set when the bit is not. -/
theorem bit_not (x : BitVec 1) : ~~~x = 1#1 ↔ ¬x = 1#1 := by revert x; decide
/-- A comparison's bit is set when the comparison holds. -/
theorem bit_bool (b : Bool) : BitVec.ofBool b = 1#1 ↔ b = true := by cases b <;> decide

/-- A coordinate compared with a constant as words, less than … -/
theorem word_lt (n : Fin 256) (c : ℕ) (hc : c < 256) : IntOp.cmpi .slt (BitVec.ofNat 32 n.val) (BitVec.ofNat 32 c) = 1#1 ↔ n.val < c := by
  have h := n.isLt
  show BitVec.ofBool (BitVec.slt _ _) = 1#1 ↔ _
  rw [bit_bool, BitVec.slt_iff_toInt_lt, BitVec.toInt_eq_toNat_of_lt (by rw [BitVec.toNat_ofNat]; omega),
    BitVec.toInt_eq_toNat_of_lt (by rw [BitVec.toNat_ofNat]; omega), BitVec.toNat_ofNat, BitVec.toNat_ofNat]
  omega
/-- … and at least. -/
theorem word_ge (n : Fin 256) (c : ℕ) (hc : c < 256) : IntOp.cmpi .sge (BitVec.ofNat 32 n.val) (BitVec.ofNat 32 c) = 1#1 ↔ c ≤ n.val := by
  have h := n.isLt
  show BitVec.ofBool (BitVec.sle _ _) = 1#1 ↔ _
  rw [bit_bool, BitVec.sle_iff_toInt_le, BitVec.toInt_eq_toNat_of_lt (by rw [BitVec.toNat_ofNat]; omega),
    BitVec.toInt_eq_toNat_of_lt (by rw [BitVec.toNat_ofNat]; omega), BitVec.toNat_ofNat, BitVec.toNat_ofNat]
  omega

/-- The word of the infinite constant is infinity. -/
theorem ofBits_inf : Ideal.ofBits .f32 0x7F800000#32 = ⊤ := by
  simp [Ideal.ofBits, Ideal.ieee, -EReal.coe_mul]
/-- An absolute value below infinity is a finite value's. -/
theorem finite_of_abs {p : EReal} (h : max p (-p) < ⊤) : p ≠ ⊤ ∧ p ≠ ⊥ := by
  refine ⟨fun e => ?_, fun e => ?_⟩
  · rw [e] at h; exact absurd (lt_of_le_of_lt (le_max_left _ _) h) (lt_irrefl _)
  · rw [e, EReal.neg_bot] at h; exact absurd (lt_of_le_of_lt (le_max_right _ _) h) (lt_irrefl _)

variable (a0 : FVec Ideal S1024x256 .f32) (a1 : FVec Ideal S1024x256x256 .f32) (a2 : FVec Ideal S1024x256 .f32)

/-- Where the stated condition holds at every entry, every step's matrix satisfies the condition to be rebuilt from its parts. -/
theorem structured_of_condition (h : fn (F := Ideal) a0 a1 a2 = fun _ => 1#1) (t : ℕ) (n k : Fin 256) : Structured (matrixAt a1 t) n k := by
  have hf := congrFun h (ix3 ⟨t % 1024, Nat.mod_lt t (by decide)⟩ n k)
  unfold fn fn_part1 fn_part2 at hf
  unfold Structured matrixAt
  generalize (⟨t % 1024, Nat.mod_lt t (by decide)⟩ : Fin 1024) = s at hf ⊢
  have e13 : broadcastInDim S1024x256x256 ![0, 1, 2] bcast_S1024x1x1_S1024x256x256_0_1_2
      (extractStridedSlice S1024x1x1 ![0, 135, 128] a1 slices_S1024x256x256_S1024x1x1_0_135_128) (ix3 s n k) = a1 (ix3 s 135 128) :=
    (broadcastInDim_apply _ _ _ _ (ix3 s 0 0) (by intro a; fin_cases a <;> rfl)).trans
      (extractStridedSlice_apply _ _ _ _ _ (by intro a; fin_cases a; exact (Nat.zero_add _).symm; rfl; rfl))
  have e15 : broadcastInDim S1024x256x256 ![0, 1, 2] bcast_S1024x256x1_S1024x256x256_0_1_2
      (extractStridedSlice S1024x256x1 ![0, 0, 128] a1 slices_S1024x256x256_S1024x256x1_0_0_128) (ix3 s n k) = a1 (ix3 s n 128) :=
    (broadcastInDim_apply _ _ _ _ (ix3 s n 0) (by intro a; fin_cases a <;> rfl)).trans
      (extractStridedSlice_apply _ _ _ _ _ (by intro a; fin_cases a; exact (Nat.zero_add _).symm; exact (Nat.zero_add _).symm; rfl))
  have e17 : broadcastInDim S1024x256x256 ![0, 1, 2] bcast_S1024x1x256_S1024x256x256_0_1_2
      (extractStridedSlice S1024x1x256 ![0, 135, 0] a1 slices_S1024x256x256_S1024x1x256_0_135_0) (ix3 s n k) = a1 (ix3 s 135 k) :=
    (broadcastInDim_apply _ _ _ _ (ix3 s 0 k) (by intro a; fin_cases a <;> rfl)).trans
      (extractStridedSlice_apply _ _ _ _ _ (by intro a; fin_cases a; exact (Nat.zero_add _).symm; rfl; exact (Nat.zero_add _).symm))
  have hz : Ideal.ofBits .f32 0x00000000#32 = 0 := by simp [Ideal.ofBits, Ideal.ieee, -EReal.coe_mul]
  generalize broadcastInDim S1024x256x256 ![0, 1, 2] bcast_S1024x1x1_S1024x256x256_0_1_2
      (extractStridedSlice S1024x1x1 ![0, 135, 128] a1 slices_S1024x256x256_S1024x1x1_0_135_128) = p at hf e13
  generalize broadcastInDim S1024x256x256 ![0, 1, 2] bcast_S1024x256x1_S1024x256x256_0_1_2
      (extractStridedSlice S1024x256x1 ![0, 0, 128] a1 slices_S1024x256x256_S1024x256x1_0_0_128) = q at hf e15
  generalize broadcastInDim S1024x256x256 ![0, 1, 2] bcast_S1024x1x256_S1024x256x256_0_1_2
      (extractStridedSlice S1024x1x256 ![0, 135, 0] a1 slices_S1024x256x256_S1024x1x256_0_135_0) = r at hf e17
  have hb : IntOp.andi
      (IntOp.ori (~~~(IntOp.andi (IntOp.cmpi .slt (BitVec.ofNat 32 n.val) (BitVec.ofNat 32 128)) (IntOp.cmpi .sge (BitVec.ofNat 32 k.val) (BitVec.ofNat 32 128))))
        (Ideal.cmp .oeq (a1 (ix3 s n k)) (Ideal.ofBits .f32 0x00000000#32)))
      (IntOp.ori
        (IntOp.ori (~~~(IntOp.andi (IntOp.cmpi .sge (BitVec.ofNat 32 n.val) (BitVec.ofNat 32 136)) (IntOp.cmpi .slt (BitVec.ofNat 32 k.val) (BitVec.ofNat 32 128))))
          (IntOp.andi (IntOp.andi (Ideal.cmp .une (p (ix3 s n k)) (Ideal.ofBits .f32 0x00000000#32))
              (Ideal.cmp .olt (max (p (ix3 s n k)) (-p (ix3 s n k))) (Ideal.ofBits .f32 0x7F800000#32)))
            (Ideal.cmp .oeq (a1 (ix3 s n k) * p (ix3 s n k)) (q (ix3 s n k) * r (ix3 s n k)))))
        (IntOp.andi (IntOp.andi (Ideal.cmp .oeq (p (ix3 s n k)) (Ideal.ofBits .f32 0x00000000#32)) (Ideal.cmp .oeq (q (ix3 s n k)) (Ideal.ofBits .f32 0x00000000#32)))
          (Ideal.cmp .oeq (a1 (ix3 s n k)) (Ideal.ofBits .f32 0x00000000#32)))) = 1#1 := hf
  rw [e13, e15, e17, hz, ofBits_inf] at hb
  simp only [bit_and, bit_or, bit_not, word_lt _ _ (by decide : 128 < 256), word_ge _ _ (by decide : 128 < 256),
    word_ge _ _ (by decide : 136 < 256), Ideal.cmp, bit_bool, decide_eq_true_eq] at hb
  obtain ⟨h1, h2⟩ := hb
  refine ⟨fun hn hk => ?_, fun hn hk => ?_⟩
  · rcases h1 with h1 | h1
    · exact absurd ⟨hn, hk⟩ h1
    · exact h1
  · rcases h2 with (h2 | ⟨⟨hp, hi⟩, he⟩) | ⟨⟨hp, hc⟩, ha⟩
    · exact absurd ⟨hn, hk⟩ h2
    · exact Or.inl ⟨hp, (finite_of_abs hi).1, (finite_of_abs hi).2, he⟩
    · exact Or.inr ⟨hp, hc, ha⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.KernelArray
public import proofs.«01_k».proof.Proof.RefArray
public import proofs.«01_k».proof.Proof.Structure
public import Idealize.ShloMosaic.Lib.Quiescent

@[expose] public section

noncomputable section

namespace Cert.Proof

open Idealize.ShloMosaic Idealize.SL.Sem

/-- The kernel's result is the reference's, entry by entry, where the matrices meet the stated condition. -/
theorem results_agree [Cert.Pre_hippo_structure.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_hippo_structure.fn (F := Ideal) (Array.arg0 m c) (Array.arg1 m c) (Array.arg2 m c) = fun _ => 1#1)
    (h0 : Ref.arg0 m' c = Array.arg0 m c) (h1 : Ref.arg1 m' c = Array.arg1 m c) (h2 : Ref.arg2 m' c = Array.arg2 m c)
    (t : Fin 1024) (b n : Fin 256) :
    recur (inputsAt (Ref.arg0 m' c)) (matrixAt (Ref.arg1 m' c)) (inputsAt (Ref.arg2 m' c)) (t.val + 1) b n
      = Cert.KernelIdeal.Value.G4 m c (ValueIdx.ix3 t b n) := by
  refine Eq.trans ?_ (Array.array_apply m c (ValueIdx.ix3 t b n)).symm
  rw [h0, h1, h2]
  exact congrFun (congrFun (recur_congr (t.val + 1) (fun _ _ => rfl)
    (fun s _ => (completed_eq _ (structured_of_condition _ _ _ hpre s)).symm) (fun _ _ => rfl)) b) n

/-- Every run of the reference ends, with its arguments kept and every semaphore back at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Under the stated condition the kernel and the reference end with equal results. -/
theorem algebraic : algebraic_KernelIdeal_ReferenceIdeal_pre_hippo_structure (hKernelIdeal := Cert.KernelIdeal.Gen.facts)
    (hReferenceIdeal := Cert.ReferenceIdeal.Gen.facts) (hPre_hippo_structure := Cert.Pre_hippo_structure.Gen.facts) := by
  intro m ρ m' ρ' hpre hagree
  refine ⟨fun c => Cert.KernelIdeal.Value.G4 m c, Cert.KernelIdeal.Value.run (F := Ideal) m ρ, ?_⟩
  refine (θ_run _ _ _).mono (fun _ h c => ⟨(h c).1.trans ?_, (h c).2⟩) (Cert.ReferenceIdeal.Value.run (F := Ideal) m' ρ')
  funext i
  obtain ⟨t, b, n, rfl⟩ : ∃ (t : Fin 1024) (b n : Fin 256), i = ValueIdx.ix3 t b n := ⟨i 0, i 1, i 2, ValueIdx.eq_ix3 i⟩
  exact (Ref.array_apply m' c t b n).trans
    (results_agree m m' c (hpre c) (hagree c).1 (hagree c).2.1 (hagree c).2.2 t b n)

/-- All the claims, with the witnesses of the programs' stated facts. -/
theorem claim : Cert.Claim :=
  ⟨Cert.Kernel.Gen.facts, Cert.KernelIdeal.Gen.facts, Cert.ReferenceIdeal.Gen.facts, Cert.Pre_hippo_structure.Gen.facts,
    fun m ρ _ => Cert.Kernel.Gen.frame m ρ,
    fun m ρ _ => Cert.KernelIdeal.Gen.frame m ρ,
    fun m ρ _ => Cert.KernelIdeal.Gen.frame m ρ,
    fun m ρ _ => reference_frame m ρ,
    fun m ρ _ => reference_frame m ρ,
    trivial,
    algebraic⟩

end Cert.Proof

end
